-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x3584 : Shape := ⟨3, ![2, 8192, 3584]⟩
abbrev S2x8192x1 : Shape := ⟨3, ![2, 8192, 1]⟩
abbrev S3584x3584 : Shape := ⟨2, ![3584, 3584]⟩
abbrev S3584 : Shape := ⟨1, ![3584]⟩
abbrev S16384x3584 : Shape := ⟨2, ![16384, 3584]⟩
abbrev S16384x1 : Shape := ⟨2, ![16384, 1]⟩
abbrev S1x3584 : Shape := ⟨2, ![1, 3584]⟩
abbrev S512x3584 : Shape := ⟨2, ![512, 3584]⟩
abbrev S512x1 : Shape := ⟨2, ![512, 1]⟩
abbrev S512 : Shape := ⟨1, ![512]⟩
abbrev S1x256 : Shape := ⟨2, ![1, 256]⟩
abbrev S512x256 : Shape := ⟨2, ![512, 256]⟩

abbrev nBuf : Space → Nat
  | .hbm => 11
  | .vmem => 11
  | .smem => 0
  | _ => 0

abbrev bufTy : (tb : Table) → Fin (tcTables nBuf tb) → BufTy
  | .hbm, ⟨0, _⟩ => ⟨S2x8192x3584, .fp8e4m3⟩
  | .hbm, ⟨1, _⟩ => ⟨S2x8192x1, .f32⟩
  | .hbm, ⟨2, _⟩ => ⟨S3584x3584, .fp8e4m3⟩
  | .hbm, ⟨3, _⟩ => ⟨S3584, .f32⟩
  | .hbm, ⟨4, _⟩ => ⟨S3584, .f32⟩
  | .hbm, ⟨5, _⟩ => ⟨S16384x3584, .fp8e4m3⟩
  | .hbm, ⟨6, _⟩ => ⟨S16384x1, .f32⟩
  | .hbm, ⟨7, _⟩ => ⟨S1x3584, .f32⟩
  | .hbm, ⟨8, _⟩ => ⟨S1x3584, .f32⟩
  | .hbm, ⟨9, _⟩ => ⟨S16384x1, .f32⟩
  | .hbm, ⟨10, _⟩ => ⟨S16384x3584, .fp8e4m3⟩
  | .local _ .vmem, ⟨0, _⟩ => ⟨S512x3584, .fp8e4m3⟩
  | .local _ .vmem, ⟨1, _⟩ => ⟨S512x3584, .fp8e4m3⟩
  | .local _ .vmem, ⟨2, _⟩ => ⟨S512x1, .f32⟩
  | .local _ .vmem, ⟨3, _⟩ => ⟨S512x1, .f32⟩
  | .local _ .vmem, ⟨4, _⟩ => ⟨S3584x3584, .fp8e4m3⟩
  | .local _ .vmem, ⟨5, _⟩ => ⟨S1x3584, .f32⟩
  | .local _ .vmem, ⟨6, _⟩ => ⟨S1x3584, .f32⟩
  | .local _ .vmem, ⟨7, _⟩ => ⟨S512x1, .f32⟩
  | .local _ .vmem, ⟨8, _⟩ => ⟨S512x1, .f32⟩
  | .local _ .vmem, ⟨9, _⟩ => ⟨S512x3584, .fp8e4m3⟩
  | .local _ .vmem, ⟨10, _⟩ => ⟨S512x3584, .fp8e4m3⟩
  | _, _ => ⟨S2x8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3584x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x8192x3584 : Shape := ⟨3, ![2, 8192, 3584]⟩
abbrev S2x8192x1 : Shape := ⟨3, ![2, 8192, 1]⟩
abbrev S3584x3584 : Shape := ⟨2, ![3584, 3584]⟩
abbrev S3584 : Shape := ⟨1, ![3584]⟩
abbrev S16384x3584 : Shape := ⟨2, ![16384, 3584]⟩
abbrev S16384x1 : Shape := ⟨2, ![16384, 1]⟩
abbrev S1x3584 : Shape := ⟨2, ![1, 3584]⟩
abbrev S16384 : Shape := ⟨1, ![16384]⟩

abbrev nBuf : Space → Nat
  | .hbm => 11
  | .vmem => 7
  | .smem => 0
  | _ => 0

abbrev bufTy : (tb : Table) → Fin (tcTables nBuf tb) → BufTy
  | .hbm, ⟨0, _⟩ => ⟨S2x8192x3584, .fp8e4m3⟩
  | .hbm, ⟨1, _⟩ => ⟨S2x8192x1, .f32⟩
  | .hbm, ⟨2, _⟩ => ⟨S3584x3584, .fp8e4m3⟩
  | .hbm, ⟨3, _⟩ => ⟨S3584, .f32⟩
  | .hbm, ⟨4, _⟩ => ⟨S3584, .f32⟩
  | .hbm, ⟨5, _⟩ => ⟨S16384x3584, .fp8e4m3⟩
  | .hbm, ⟨6, _⟩ => ⟨S16384x1, .f32⟩
  | .hbm, ⟨7, _⟩ => ⟨S1x3584, .f32⟩
  | .hbm, ⟨8, _⟩ => ⟨S1x3584, .f32⟩
  | .hbm, ⟨9, _⟩ => ⟨S16384x1, .f32⟩
  | .hbm, ⟨10, _⟩ => ⟨S16384x3584, .fp8e4m3⟩
  | .local _ .vmem, ⟨0, _⟩ => ⟨S16384x3584, .fp8e4m3⟩
  | .local _ .vmem, ⟨1, _⟩ => ⟨S16384x1, .f32⟩
  | .local _ .vmem, ⟨2, _⟩ => ⟨S3584x3584, .fp8e4m3⟩
  | .local _ .vmem, ⟨3, _⟩ => ⟨S1x3584, .f32⟩
  | .local _ .vmem, ⟨4, _⟩ => ⟨S1x3584, .f32⟩
  | .local _ .vmem, ⟨5, _⟩ => ⟨S16384x1, .f32⟩
  | .local _ .vmem, ⟨6, _⟩ => ⟨S16384x3584, .fp8e4m3⟩
  | _, _ => ⟨S2x8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
/-
  THE KERNEL'S RUN, ITS TWO RESULT ARRAYS NAMED. `run_blocks` is the frame run of the kernel with the scale array and
  the code array after the run named (`(dats m 0 c).arrAt w N`, windows 5 and 6) and the arguments unchanged; `flushed5` and
  `flushed6` say what a grid point writes back to each: the body's result on the point's input blocks.
-/
module

public import proofs.«01_k».proof.Proof.Gen.KernelIdeal.Frame
public import Idealize.ShloMosaic.Lib.Pipeline.Value

@[expose] public section

noncomputable section

namespace Cert.KernelIdeal.Run

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v4_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_1) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N` —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

end Cert.KernelIdeal.Run

end
-- ==== Proof.Exponent.lean ====
/-
  THE POWER-OF-TWO SCALE OF A ROW. For a row whose largest absolute value is `a`, with `t = a / 448` (the product with the f32
  nearest 1/448), the kernel reads the exponent field of `t` and builds the words of the scale and of its inverse; the reference
  takes `e = ⌊log₂ t⌋ + 1` (0 outside the normal range) and raises two to it. At the extended reals the two agree for EVERY `a`.
-/
module

public import Idealize.ShloMosaic.Lib.Pointwise
public import Idealize.ShloMosaic.Lib.SortNet.Extract

@[expose] public section

noncomputable section

namespace Cert.Exponent

open Idealize.ShloMosaic

/-! ## The kernel's integers and the reference's exponent -/

/-- The largest absolute value divided by 448. -/
def ratio (a : EReal) : EReal := a * Ideal.ofBits .f32 991054117#32

/-- The kernel's exponent field of `t`: the largest power-of-two pattern not above `t`, shifted down to its field (the all-ones
    pattern from `2^120` on). -/
def field (t : EReal) : BitVec 32 :=
  IntOp.shrsi .vector
    (if t < Ideal.ofBits .f32 2071986176#32 then
      (Finset.univ : Finset (Fin 256)).fold IntOp.maxsi 2147483648#32 (fun c : Fin 256 =>
        if Ideal.ofBits .f32 (IntOp.shli .vector (BitVec.ofNat 32 ↑c) 23#32) ≤ t then IntOp.shli .vector (BitVec.ofNat 32 ↑c) 23#32
        else 0#32)
    else 2139095040#32) 23#32

/-- The kernel's exponent of the scale from the field `u`: 0 for a degenerate row, else the field less 126. -/
def exponent (a : EReal) (u : BitVec 32) : BitVec 32 :=
  Scalar.select (IntOp.ori (IntOp.ori (IntOp.cmpi .eq (IntOp.andi u 255#32) 0#32) (IntOp.cmpi .eq (IntOp.andi u 255#32) 255#32))
      (BitVec.ofBool (decide (a = 0)))) 0#32 (IntOp.subi (IntOp.andi u 255#32) 126#32)

/-- The kernel's scale: the pattern with exponent field `127 + e`. -/
def scale (a : EReal) (u : BitVec 32) : EReal := Ideal.ofBits .f32 (IntOp.shli .vector (IntOp.addi 127#32 (exponent a u)) 23#32)

/-- The kernel's inverse scale: the pattern with exponent field `127 - e`. -/
def inverse (a : EReal) (u : BitVec 32) : EReal := Ideal.ofBits .f32 (IntOp.shli .vector (IntOp.subi 127#32 (exponent a u)) 23#32)

/-- The reference's exponent of the scale. -/
def refExponent (t : EReal) : EReal :=
  Scalar.select (IntOp.andi (BitVec.ofBool (decide (Ideal.ofBits .f32 8388608#32 ≤ t))) (BitVec.ofBool (decide (t < Ideal.ofBits .f32 2071986176#32))))
    (Ideal.liftRound Int.floor (Ideal.div (Ideal.log t) (Ideal.log (Ideal.ofBits .f32 1073741824#32))) + 1) (0 : EReal)

/-! ## Words -/

/-- The pattern with exponent field `c` and nothing else. -/
abbrev pat (c : ℕ) : BitVec 32 := BitVec.ofNat 32 c <<< 23

theorem shli_23 (x : BitVec 32) : IntOp.shli .vector x 23#32 = x <<< 23 := rfl

/-- The sign bit, the exponent field and the significand of `pat c`. -/
theorem pat_fields : ∀ c : Fin 256, ((pat c).extractLsb' 31 1 == 1#1) = false ∧ ((pat c).extractLsb' 23 8).toNat = c ∧
    ((pat c).extractLsb' 0 23).toNat = 0 := by decide +kernel

/-- `pat c` denotes `2^(c - 127)` for a normal exponent field. -/
theorem ofBits_pat (c : ℕ) (h1 : 1 ≤ c) (h2 : c ≤ 254) : Ideal.ofBits .f32 (pat c) = (((2 : ℝ) ^ ((c : ℤ) - 127) : ℝ) : EReal) := by
  obtain ⟨e1, e2, e3⟩ := pat_fields ⟨c, by omega⟩
  simp only at e1 e2 e3
  show Ideal.ieee 8 23 (pat c) = _
  unfold Ideal.ieee
  simp only [Nat.reduceAdd, e1, e2, e3]
  rw [if_neg (by omega), if_neg (by omega)]
  refine congrArg (fun z : ℝ => (z : EReal)) ?_
  rw [if_neg (by simp), one_mul, Nat.add_zero, show (((2 ^ 23 : ℕ) : ℝ)) = (2 : ℝ) ^ (23 : ℤ) by norm_num,
    ← zpow_add₀ (by norm_num : (2 : ℝ) ≠ 0)]
  refine congrArg (fun z : ℤ => (2 : ℝ) ^ z) ?_
  norm_num

/-- `pat 255` denotes `+∞`. -/
theorem ofBits_pat_255 : Ideal.ofBits .f32 (pat 255) = ⊤ := by
  obtain ⟨e1, e2, e3⟩ := pat_fields ⟨255, by omega⟩
  simp only at e1 e2 e3
  show Ideal.ieee 8 23 (pat 255) = _
  unfold Ideal.ieee
  simp only [Nat.reduceAdd, e1, e2, e3]
  simp

/-- Signed value of `pat c` for `c < 256`, as a test of order. -/
theorem pat_toInt_mono : ∀ c : Fin 256, (pat c).toInt = (c : ℕ) * 8388608 := by decide +kernel

/-- The field read back from the pattern. -/
theorem shrsi_pat : ∀ c : Fin 256, IntOp.andi (IntOp.shrsi .vector (pat c) 23#32) 255#32 = BitVec.ofNat 32 c := by decide +kernel

/-! ## The field -/

/-- If exactly the patterns with field at most `b` lie below `t`, the fold keeps `pat b`. -/
theorem fold_pat (t : EReal) (b : ℕ) (hb : b ≤ 254)
    (h : ∀ c : Fin 256, 1 ≤ (c : ℕ) → (Ideal.ofBits .f32 (pat c) ≤ t ↔ (c : ℕ) ≤ b)) :
    (Finset.univ : Finset (Fin 256)).fold IntOp.maxsi 2147483648#32 (fun c : Fin 256 =>
        if Ideal.ofBits .f32 (IntOp.shli .vector (BitVec.ofNat 32 ↑c) 23#32) ≤ t then IntOp.shli .vector (BitVec.ofNat 32 ↑c) 23#32
        else 0#32) = pat b := by
  let g : Fin 256 → BitVec 32 := fun c =>
        if Ideal.ofBits .f32 (IntOp.shli .vector (BitVec.ofNat 32 ↑c) 23#32) ≤ t then IntOp.shli .vector (BitVec.ofNat 32 ↑c) 23#32
        else 0#32
  show (Finset.univ : Finset (Fin 256)).fold IntOp.maxsi 2147483648#32 g = pat b
  have gv : ∀ c : Fin 256, (g c).toInt = if (c : ℕ) ≤ b then ((c : ℕ) : ℤ) * 8388608 else 0 := by
    intro c
    show (if Ideal.ofBits .f32 (pat c) ≤ t then pat c else 0#32).toInt = _
    rcases Nat.eq_zero_or_pos (c : ℕ) with h0 | h0
    · have e : pat c = 0#32 := by rw [h0]; decide
      rw [e, ite_self, h0, if_pos (Nat.zero_le b)]; rfl
    · by_cases hc : (c : ℕ) ≤ b
      · rw [if_pos ((h c h0).mpr hc), if_pos hc]; exact pat_toInt_mono c
      · rw [if_neg (fun e => hc ((h c h0).mp e)), if_neg hc]; rfl
  obtain ⟨_, h2, h3⟩ := SortNet.fold_maxsi_spec g Finset.univ 2147483648#32
  have hlo := h2 ⟨b, by omega⟩ (Finset.mem_univ _)
  rw [gv, if_pos (le_refl b)] at hlo
  refine BitVec.eq_of_toInt_eq ?_
  rw [show (pat b).toInt = (b : ℤ) * 8388608 from pat_toInt_mono ⟨b, by omega⟩]
  refine le_antisymm ?_ hlo
  rcases h3 with e | ⟨i, _, e⟩
  · rw [e]
    have : (2147483648#32 : BitVec 32).toInt = -2147483648 := by decide
    rw [this]; omega
  · rw [e, gv]
    split <;> omega

/-- The threshold `2^120`. -/
theorem top_eq : Ideal.ofBits .f32 2071986176#32 = (((2 : ℝ) ^ (120 : ℤ) : ℝ) : EReal) :=
  ofBits_pat 247 (by omega) (by omega)

/-- The smallest normal number `2^-126`. -/
theorem bot_eq : Ideal.ofBits .f32 8388608#32 = (((2 : ℝ) ^ (-126 : ℤ) : ℝ) : EReal) :=
  ofBits_pat 1 (by omega) (by omega)

/-- The word `2.0`. -/
theorem two_eq : Ideal.ofBits .f32 1073741824#32 = ((2 : ℝ) : EReal) := by
  rw [show Ideal.ofBits .f32 1073741824#32 = _ from ofBits_pat 128 (by omega) (by omega)]
  norm_num

/-- From the threshold on the field is all ones. -/
theorem field_top (t : EReal) (h : ¬ t < Ideal.ofBits .f32 2071986176#32) : IntOp.andi (field t) 255#32 = 255#32 := by
  unfold field
  rw [if_neg h, show (2139095040#32 : BitVec 32) = pat 255 from by decide]
  exact shrsi_pat ⟨255, by omega⟩

/-- Below the smallest normal number the field is zero. -/
theorem field_bot (t : EReal) (h : ¬ Ideal.ofBits .f32 8388608#32 ≤ t) : IntOp.andi (field t) 255#32 = 0#32 := by
  have ht : t < (((2 : ℝ) ^ (-126 : ℤ) : ℝ) : EReal) := by rw [← bot_eq]; exact not_le.mp h
  unfold field
  rw [if_pos (by
    rw [top_eq]
    refine lt_trans ht ?_
    rw [EReal.coe_lt_coe_iff]
    exact zpow_lt_zpow_right₀ (by norm_num) (by norm_num)), fold_pat t 0 (by omega) ?_]
  · exact shrsi_pat ⟨0, by omega⟩
  · intro c h1
    refine ⟨fun e => absurd e (not_le.mpr (lt_of_lt_of_le ht ?_)), fun e => by omega⟩
    rcases Nat.lt_or_ge (c : ℕ) 255 with h2 | h2
    · rw [ofBits_pat c h1 (by omega), EReal.coe_le_coe_iff]
      exact zpow_le_zpow_right₀ (by norm_num) (by omega)
    · rw [show (c : ℕ) = 255 by have := c.isLt; omega, ofBits_pat_255]
      exact le_top

/-- `2^n ≤ t` exactly when `n ≤ ⌊log₂ t⌋`. -/
theorem le_floor_log (t : ℝ) (ht : 0 < t) (n : ℤ) : (2 : ℝ) ^ n ≤ t ↔ n ≤ ⌊Real.log t / Real.log 2⌋ := by
  rw [Int.le_floor, le_div_iff₀ (Real.log_pos (by norm_num)), ← Real.log_zpow, Real.log_le_log_iff (by positivity) ht]

/-- In the normal range the field is `⌊log₂ t⌋ + 127`. -/
theorem field_mid (t : ℝ) (h1 : (2 : ℝ) ^ (-126 : ℤ) ≤ t) (h2 : t < (2 : ℝ) ^ (120 : ℤ)) :
    ∃ b : ℕ, 1 ≤ b ∧ b ≤ 246 ∧ (b : ℤ) - 127 = ⌊Real.log t / Real.log 2⌋ ∧ IntOp.andi (field (t : EReal)) 255#32 = BitVec.ofNat 32 b := by
  have ht : 0 < t := lt_of_lt_of_le (by positivity) h1
  have k1 := (le_floor_log t ht (-126)).mp h1
  have k2 : ¬ (120 : ℤ) ≤ ⌊Real.log t / Real.log 2⌋ := fun e => absurd ((le_floor_log t ht 120).mpr e) (not_le.mpr h2)
  obtain ⟨b, hb⟩ : ∃ b : ℕ, (b : ℤ) = ⌊Real.log t / Real.log 2⌋ + 127 := ⟨(⌊Real.log t / Real.log 2⌋ + 127).toNat, by omega⟩
  refine ⟨b, by omega, by omega, by omega, ?_⟩
  unfold field
  rw [if_pos (by rw [top_eq, EReal.coe_lt_coe_iff]; exact h2), fold_pat t b (by omega) ?_]
  · exact shrsi_pat ⟨b, by omega⟩
  · intro c hc
    rcases Nat.lt_or_ge (c : ℕ) 255 with h3 | h3
    · rw [ofBits_pat c hc (by omega), EReal.coe_le_coe_iff, le_floor_log t ht]
      omega
    · rw [show (c : ℕ) = 255 by have := c.isLt; omega, ofBits_pat_255]
      exact ⟨fun e => absurd e (not_le.mpr (EReal.coe_lt_top t)), fun e => by omega⟩

/-! ## The scale and its inverse -/

/-- A row with field 0 or 255 gets exponent 0. -/
theorem exponent_degenerate (a : EReal) (u : BitVec 32) (h : IntOp.andi u 255#32 = 0#32 ∨ IntOp.andi u 255#32 = 255#32) :
    exponent a u = 0#32 := by
  unfold exponent
  rcases h with h | h <;> rw [h] <;> cases decide (a = 0) <;> rfl

/-- A row with field `1 ≤ b ≤ 246` and a nonzero maximum gets exponent `b - 126`. -/
theorem exponent_normal (a : EReal) (u : BitVec 32) (ha : a ≠ 0) (b : ℕ) (h1 : 1 ≤ b) (h2 : b ≤ 246)
    (h : IntOp.andi u 255#32 = BitVec.ofNat 32 b) : exponent a u = BitVec.ofNat 32 b - 126#32 := by
  have key : ∀ c : Fin 247, 1 ≤ (c : ℕ) →
      Scalar.select (IntOp.ori (IntOp.ori (IntOp.cmpi .eq (BitVec.ofNat 32 c) 0#32) (IntOp.cmpi .eq (BitVec.ofNat 32 c) 255#32))
        (BitVec.ofBool false)) 0#32 (IntOp.subi (BitVec.ofNat 32 c) 126#32) = BitVec.ofNat 32 c - 126#32 := by decide +kernel
  unfold exponent
  rw [h, decide_eq_false ha]
  exact key ⟨b, by omega⟩ h1

/-- The words of the scale and of the inverse from the exponent. -/
theorem words : ∀ c : Fin 247, (IntOp.addi 127#32 (BitVec.ofNat 32 c - 126#32)) = BitVec.ofNat 32 (c + 1) ∧
    (IntOp.subi 127#32 (BitVec.ofNat 32 c - 126#32)) = BitVec.ofNat 32 (253 - c) := by decide +kernel

/-- Two to an integer power. -/
theorem exp2_int (n : ℤ) : Ideal.exp2 (((n : ℝ) : ℝ) : EReal) = (((2 : ℝ) ^ n : ℝ) : EReal) := by
  rw [Ideal.exp2_coe]
  congr 1
  exact Real.rpow_intCast 2 n

/-- Outside the normal range both sides take exponent 0. -/
theorem refExponent_degenerate (t : EReal) (h : ¬ (Ideal.ofBits .f32 8388608#32 ≤ t ∧ t < Ideal.ofBits .f32 2071986176#32)) : refExponent t = 0 := by
  unfold refExponent
  by_cases h1 : Ideal.ofBits .f32 8388608#32 ≤ t
  · rw [decide_eq_true h1, decide_eq_false (fun e => h ⟨h1, e⟩)]; rfl
  · rw [decide_eq_false h1]; cases decide (t < Ideal.ofBits .f32 2071986176#32) <;> rfl

/-- In the normal range the reference's exponent is `⌊log₂ t⌋ + 1`. -/
theorem refExponent_normal (t : ℝ) (h1 : (2 : ℝ) ^ (-126 : ℤ) ≤ t) (h2 : t < (2 : ℝ) ^ (120 : ℤ)) :
    refExponent (t : EReal) = (((⌊Real.log t / Real.log 2⌋ + 1 : ℤ) : ℝ) : EReal) := by
  have ht : 0 < t := lt_of_lt_of_le (by positivity) h1
  unfold refExponent
  rw [decide_eq_true (by rw [bot_eq, EReal.coe_le_coe_iff]; exact h1), decide_eq_true (by rw [top_eq, EReal.coe_lt_coe_iff]; exact h2)]
  show Ideal.liftRound Int.floor (Ideal.div (Ideal.log t) (Ideal.log (Ideal.ofBits .f32 1073741824#32))) + 1 = _
  rw [two_eq, Ideal.log_coe, Ideal.log_coe, if_neg (not_le.mpr ht), if_neg (by norm_num),
    Ideal.div_coe (Real.log_pos (by norm_num)).ne', ← EReal.coe_mul, Ideal.liftRound_coe, mul_one_div]
  push_cast
  rfl

/-- The scale and the inverse the kernel builds are the reference's powers of two, for every row maximum `a`. -/
theorem scale_inverse (a : EReal) : scale a (field (ratio a)) = Ideal.exp2 (refExponent (ratio a)) ∧
    inverse a (field (ratio a)) = Ideal.exp2 (0 - refExponent (ratio a)) := by
  by_cases h : Ideal.ofBits .f32 8388608#32 ≤ ratio a ∧ ratio a < Ideal.ofBits .f32 2071986176#32
  · have ha : a ≠ 0 := by
      rintro rfl
      have := h.1
      rw [ratio, zero_mul, bot_eq, ← EReal.coe_zero, EReal.coe_le_coe_iff] at this
      exact absurd this (not_le.mpr (by positivity))
    generalize ratio a = t at h ⊢
    obtain ⟨h1, h2⟩ := h
    rw [bot_eq] at h1
    rw [top_eq] at h2
    lift t to ℝ using ⟨(lt_trans h2 (EReal.coe_lt_top _)).ne, (lt_of_lt_of_le (EReal.bot_lt_coe _) h1).ne'⟩
    rw [EReal.coe_le_coe_iff] at h1
    rw [EReal.coe_lt_coe_iff] at h2
    obtain ⟨b, b1, b2, hb, hf⟩ := field_mid t h1 h2
    obtain ⟨w1, w2⟩ := words ⟨b, by omega⟩
    simp only at w1 w2
    rw [refExponent_normal t h1 h2, ← hb]
    constructor
    · rw [scale, exponent_normal a _ ha b b1 b2 hf, w1, shli_23, show BitVec.ofNat 32 (b + 1) <<< 23 = pat (b + 1) from rfl, ofBits_pat (b + 1) (by omega) (by omega), exp2_int]
      congr 2
      push_cast; ring
    · rw [inverse, exponent_normal a _ ha b b1 b2 hf, w2, shli_23, show BitVec.ofNat 32 (253 - b) <<< 23 = pat (253 - b) from rfl, ofBits_pat (253 - b) (by omega) (by omega),
        zero_sub, ← EReal.coe_neg, ← Int.cast_neg, exp2_int]
      congr 2
      omega
  · rw [refExponent_degenerate _ h, zero_sub, neg_zero]
    have e : exponent a (field (ratio a)) = 0#32 := exponent_degenerate _ _ (by
      by_cases h1 : Ideal.ofBits .f32 8388608#32 ≤ ratio a
      · exact Or.inr (field_top _ fun h2 => h ⟨h1, h2⟩)
      · exact Or.inl (field_bot _ h1))
    have o : Ideal.exp2 0 = Ideal.ofBits .f32 (pat 127) := by
      rw [ofBits_pat 127 (by omega) (by omega), show (0 : EReal) = (((0 : ℤ) : ℝ) : EReal) by norm_num, exp2_int]
      norm_num
    rw [scale, inverse, e, o]
    exact ⟨rfl, rfl⟩

end Cert.Exponent

end
-- ==== Proof.Rows.lean ====
/-
  ONE ROW OF THE REQUANTISED PRODUCT, AT THE EXTENDED REALS. The vector expressions that the kernel (on 512 rows) and the
  reference (on 16384 rows) both print — the scaled product and the row maximum of its absolute values — read at a row, for any
  number `M` of rows: each is a function of that ROW's entries alone (`yRow`, `rowMax`).
-/
module

public import Idealize.ShloMosaic.Lib.Pointwise
public import Idealize.ShloMosaic.Lib.MatmulPlain
public import Idealize.ShloMosaic.Lib.Pipeline.Value
public import Idealize.ShloMosaic.Lib.ValueLayout
public import Idealize.ShloMosaic.Lib.ValueLayoutCasts
public import Idealize.ShloMosaic.Lib.IdealHost
public import proofs.«01_k».proof.Proof.Exponent

@[expose] public section

noncomputable section

namespace Cert.Rows

open Idealize.ShloMosaic hiding ix2 ix1
open Idealize.ShloMosaic.ValueIdx
open Cert.Exponent

/-- Entry `j` of one row of `acc · x_scale · w_scale + bias`: `x` the row of the left operand, `xs` its scale, `w` the right
    operand's rows, `ws` and `b` the per-column scales and biases. -/
def yRow (x : Fin 3584 → EReal) (xs : EReal) (w : Fin 3584 → Fin 3584 → EReal) (ws b : Fin 3584 → EReal) (j : Fin 3584) : EReal :=
  (∑ k, x k * w j k) * xs * ws j + b j

/-- The maximum of a row's absolute values, from −∞. -/
def rowMax (y : Fin 3584 → EReal) : EReal :=
  Finset.univ.fold max (Ideal.ofBits .f32 0xFF800000#32) fun k => max (y k) (-(y k))

/-- The scale of a row `y`: two to its exponent. -/
def rowScale (y : Fin 3584 → EReal) : EReal := Ideal.exp2 (refExponent (ratio (rowMax y)))

/-- The code at column `j` of a row `y`: the entry over the row's scale, clipped to ±448. -/
def rowCode (y : Fin 3584 → EReal) (j : Fin 3584) : EReal :=
  min (Ideal.ofBits .f32 0x43E00000#32) (max (Ideal.ofBits .f32 0xC3E00000#32) (y j * Ideal.exp2 (0 - refExponent (ratio (rowMax y)))))

variable {M : ℕ}

/-- Row `r` of the scaled products of arrays of `M` rows. -/
def row (x : Vec Ideal ⟨2, ![M, 3584]⟩ .fp8e4m3) (w : Vec Ideal ⟨2, ![3584, 3584]⟩ .fp8e4m3) (xs : Vec Ideal ⟨2, ![M, 1]⟩ .f32)
    (ws b : Vec Ideal ⟨2, ![1, 3584]⟩ .f32) (r : Fin M) : Fin 3584 → EReal :=
  yRow (fun k => x (ix2 r k)) (xs (ix2 r 0)) (fun j k => w (ix2 j k)) (fun j => ws (ix2 0 j)) (fun j => b (ix2 0 j))

/-- Two rows whose entries agree have the same scaled products. -/
theorem row_congr {M' : ℕ} {x : Vec Ideal ⟨2, ![M, 3584]⟩ .fp8e4m3} {w : Vec Ideal ⟨2, ![3584, 3584]⟩ .fp8e4m3}
    {xs : Vec Ideal ⟨2, ![M, 1]⟩ .f32} {ws b : Vec Ideal ⟨2, ![1, 3584]⟩ .f32} {r : Fin M}
    {x' : Vec Ideal ⟨2, ![M', 3584]⟩ .fp8e4m3} {w' : Vec Ideal ⟨2, ![3584, 3584]⟩ .fp8e4m3}
    {xs' : Vec Ideal ⟨2, ![M', 1]⟩ .f32} {ws' b' : Vec Ideal ⟨2, ![1, 3584]⟩ .f32} {r' : Fin M'}
    (hx : ∀ k, x (ix2 r k) = x' (ix2 r' k)) (hw : ∀ j k, w (ix2 j k) = w' (ix2 j k)) (hxs : xs (ix2 r 0) = xs' (ix2 r' 0))
    (hws : ∀ j, ws (ix2 0 j) = ws' (ix2 0 j)) (hb : ∀ j, b (ix2 0 j) = b' (ix2 0 j)) :
    row x w xs ws b r = row x' w' xs' ws' b' r' := by
  unfold row
  simp only [hx, hw, hxs, hws, hb]

/-- The scales of all rows, as a column. -/
def scales (x : Vec Ideal ⟨2, ![M, 3584]⟩ .fp8e4m3) (w : Vec Ideal ⟨2, ![3584, 3584]⟩ .fp8e4m3) (xs : Vec Ideal ⟨2, ![M, 1]⟩ .f32)
    (ws b : Vec Ideal ⟨2, ![1, 3584]⟩ .f32) : Vec Ideal ⟨2, ![M, 1]⟩ .f32 := fun i => rowScale (row x w xs ws b (i 0))

/-- The codes of all rows. -/
def codes (x : Vec Ideal ⟨2, ![M, 3584]⟩ .fp8e4m3) (w : Vec Ideal ⟨2, ![3584, 3584]⟩ .fp8e4m3) (xs : Vec Ideal ⟨2, ![M, 1]⟩ .f32)
    (ws b : Vec Ideal ⟨2, ![1, 3584]⟩ .f32) : Vec Ideal ⟨2, ![M, 3584]⟩ .fp8e4m3 := fun i => rowCode (row x w xs ws b (i 0)) (i 1)

/-- A column of `M` entries broadcast to `M` rows of 3584 reads, at row `r`, the column's entry `r`. -/
theorem column_apply {α : Type} (v : (⟨2, ![M, 1]⟩ : Shape).Idx → α) (h : (⟨2, ![M, 1]⟩ : Shape).Broadcasts ⟨2, ![M, 3584]⟩)
    (r : Fin M) (j : Fin 3584) : broadcastTo ⟨2, ![M, 3584]⟩ v h (ix2 r j) = v (ix2 r 0) :=
  broadcastTo_apply v h (ix2 r j) (ix2 r 0) (fun a => match a with
    | ⟨0, _⟩ => by
      show (r : ℕ) = if M = 1 then 0 else (r : ℕ)
      have := r.isLt
      split <;> omega
    | ⟨1, _⟩ => rfl)

/-- The scaled product of `M` rows read at row `r`, column `j`: `yRow` of the row's entries. -/
theorem y_apply (x : FVec Ideal ⟨2, ![M, 3584]⟩ .fp8e4m3) (w : FVec Ideal ⟨2, ![3584, 3584]⟩ .fp8e4m3)
    (xs : FVec Ideal ⟨2, ![M, 1]⟩ .f32) (ws b : FVec Ideal ⟨2, ![1, 3584]⟩ .f32)
    (hx : (⟨2, ![M, 3584]⟩ : Shape).ShapeCasts ⟨2, ![M, 3584]⟩) (hs : (⟨2, ![M, 1]⟩ : Shape).ShapeCasts ⟨2, ![M, 1]⟩)
    (h1 : (⟨2, ![1, 3584]⟩ : Shape).ShapeCasts ⟨2, ![1, 3584]⟩)
    (hbs : (⟨2, ![M, 1]⟩ : Shape).Broadcasts ⟨2, ![M, 3584]⟩) (hb1 : (⟨2, ![1, 3584]⟩ : Shape).Broadcasts ⟨2, ![M, 3584]⟩)
    (r : Fin M) (j : Fin 3584) :
    addf (mulf (mulf (matmul (DotDims.transposedRhs M 3584 3584) none (shapeCast ⟨2, ![M, 3584]⟩ x hx) w
            (constant ⟨2, ![M, 3584]⟩ .f32 0x00000000#32))
          (broadcastTo ⟨2, ![M, 3584]⟩ (shapeCast ⟨2, ![M, 1]⟩ xs hs) hbs))
        (broadcastTo ⟨2, ![M, 3584]⟩ (shapeCast ⟨2, ![1, 3584]⟩ ws h1) hb1))
      (broadcastTo ⟨2, ![M, 3584]⟩ (shapeCast ⟨2, ![1, 3584]⟩ b h1) hb1) (ix2 r j)
      = yRow (fun k => x (ix2 r k)) (xs (ix2 r 0)) (fun j k => w (ix2 j k)) (fun j => ws (ix2 0 j)) (fun j => b (ix2 0 j)) j := by
  rw [shapeCast_self, shapeCast_self, shapeCast_self, shapeCast_self]
  show FloatOps.matmul (DotDims.transposedRhs M 3584 3584) none x w (constant ⟨2, ![M, 3584]⟩ .f32 0x00000000#32) (ix2 r j)
        * broadcastTo ⟨2, ![M, 3584]⟩ xs hbs (ix2 r j) * broadcastTo ⟨2, ![M, 3584]⟩ ws hb1 (ix2 r j)
      + broadcastTo ⟨2, ![M, 3584]⟩ b hb1 (ix2 r j) = _
  rw [column_apply, broadcastTo_1b_ab_apply, broadcastTo_1b_ab_apply, Ideal.matmul_transposedRhs_apply]
  show ((Ideal.ofBits .f32 0x00000000#32 + _) * _ * _ + _ : EReal) = _
  rw [Ideal.ofBits_zero_f32, zero_add]
  rfl

/-- The row maximum of `M` rows read at row `r`: `rowMax` of that row. -/
theorem max_apply (y : FVec Ideal ⟨2, ![M, 3584]⟩ .f32) (h : (⟨2, ![M, 3584]⟩ : Shape).Reduces [1] ⟨1, ![M]⟩)
    (hφ : FKind.Formats .f32) (hacc : (0xFF800000#32 : BitVec FTy.f32.bits) = FKind.maximumf.neutral .f32 hφ)
    (hc : (⟨1, ![M]⟩ : Shape).ShapeCasts ⟨2, ![M, 1]⟩) (r : Fin M) :
    shapeCast ⟨2, ![M, 1]⟩ (multiReduction .maximumf [1] ⟨1, ![M]⟩ (absf y) 0xFF800000#32 h hφ hacc) hc (ix2 r 0)
      = rowMax fun k => y (ix2 r k) := by
  rw [shapeCast_a_a1_apply, multiReduction_maximumf_eq_fold, Shape.Reduces.fold_fiber_r2_a1]
  rfl

/-- The clipped and rescaled entries of `M` rows at row `r`, column `j`, from the column `v` of inverse scales: the cast to fp8
    is the identity at the extended reals. -/
theorem code_apply (y : FVec Ideal ⟨2, ![M, 3584]⟩ .f32) (v : FVec Ideal ⟨2, ![M, 1]⟩ .f32)
    (h : (⟨2, ![M, 1]⟩ : Shape).Broadcasts ⟨2, ![M, 3584]⟩) (hb : FTy.fp8e4m3.bits < FTy.f32.bits) (r : Fin M) (j : Fin 3584) :
    truncf .fp8e4m3 (minimumf (broadcast ⟨2, ![M, 3584]⟩ (Scalar.ofBits (F := Ideal) .f32 0x43E00000#32))
      (maximumf (broadcast ⟨2, ![M, 3584]⟩ (Scalar.ofBits (F := Ideal) .f32 0xC3E00000#32))
        (mulf y (broadcastTo ⟨2, ![M, 3584]⟩ v h)))) hb (ix2 r j)
      = min (Ideal.ofBits .f32 0x43E00000#32) (max (Ideal.ofBits .f32 0xC3E00000#32) (y (ix2 r j) * v (ix2 r 0))) := by
  show min (Ideal.ofBits .f32 0x43E00000#32) (max (Ideal.ofBits .f32 0xC3E00000#32) (y (ix2 r j) * broadcastTo ⟨2, ![M, 3584]⟩ v h (ix2 r j))) = _
  rw [column_apply]

/-- The reference's exponents of a column `v` of row maxima, read at an index. -/
theorem exponent_apply (v : FVec Ideal ⟨2, ![M, 1]⟩ .f32) (i : (⟨2, ![M, 1]⟩ : Shape).Idx) :
    select (andi (cmpf .oge (mulf v (broadcast ⟨2, ![M, 1]⟩ (Scalar.ofBits (F := Ideal) .f32 0x3B124925#32))) (broadcast ⟨2, ![M, 1]⟩ (Scalar.ofBits (F := Ideal) .f32 0x00800000#32)))
        (cmpf .olt (mulf v (broadcast ⟨2, ![M, 1]⟩ (Scalar.ofBits (F := Ideal) .f32 0x3B124925#32))) (broadcast ⟨2, ![M, 1]⟩ (Scalar.ofBits (F := Ideal) .f32 0x7B800000#32))))
      (addf (floor (divf (log (mulf v (broadcast ⟨2, ![M, 1]⟩ (Scalar.ofBits (F := Ideal) .f32 0x3B124925#32)))) (log (broadcast ⟨2, ![M, 1]⟩ (Scalar.ofBits (F := Ideal) .f32 0x40000000#32)))))
        (broadcast ⟨2, ![M, 1]⟩ (Scalar.ofBits (F := Ideal) .f32 0x3F800000#32)))
      (broadcast ⟨2, ![M, 1]⟩ (Scalar.ofBits (F := Ideal) .f32 0x00000000#32)) i = refExponent (ratio (v i)) := by
  show Scalar.select (IntOp.andi (BitVec.ofBool (decide (Ideal.ofBits .f32 8388608#32 ≤ ratio (v i)))) (BitVec.ofBool (decide (ratio (v i) < Ideal.ofBits .f32 2071986176#32))))
    (Ideal.liftRound Int.floor (Ideal.div (Ideal.log (ratio (v i))) (Ideal.log (Ideal.ofBits .f32 1073741824#32))) + Ideal.ofBits .f32 0x3F800000#32)
    (Ideal.ofBits .f32 0x00000000#32) = _
  rw [Ideal.ofBits_one_f32, Ideal.ofBits_zero_f32]
  rfl

end Cert.Rows

end
-- ==== Proof.KernelBlock.lean ====
/-
  WHAT ONE GRID POINT OF THE KERNEL COMPUTES, at the extended reals: from a block of 512 rows, the scale of each row and its codes
  — `Rows.rowScale` and `Rows.rowCode` of the row of scaled products `Rows.yRow`.
-/
module

public import proofs.«01_k».proof.Proof.Gen.KernelIdeal.Frame
public import proofs.«01_k».proof.Proof.Rows

@[expose] public section

noncomputable section

namespace Cert.KernelIdeal.Block

open Cert.KernelIdeal Cert.KernelIdeal.Gen Cert.Rows Cert.Exponent
open Idealize.ShloMosaic

variable (x : Vec Ideal S512x3584 .fp8e4m3) (w : Vec Ideal S3584x3584 .fp8e4m3) (xs : Vec Ideal S512x1 .f32)
  (ws b : Vec Ideal S1x3584 .f32)

/-- The scaled products at row `r`, column `j`. -/
theorem y_row (r : Fin 512) (j : Fin 3584) : k0_pay4 x w xs ws b (ValueIdx.ix2 r j) = row x w xs ws b r j :=
  y_apply x w xs ws b _ _ _ _ _ r j

/-- The largest absolute value of row `r`. -/
theorem max_row (r : Fin 512) : k0_pay5 x w xs ws b (ValueIdx.ix2 r 0) = rowMax (row x w xs ws b r) :=
  (max_apply (k0_pay4 x w xs ws b) _ _ _ _ r).trans (congrArg rowMax (funext fun k => y_row x w xs ws b r k))

/-- The exponent field of row `r`: that of its largest absolute value over 448. -/
theorem field_row (r : Fin 512) : k0_pay6 x w xs ws b (ValueIdx.ix2 r 0) = field (ratio (k0_pay5 x w xs ws b (ValueIdx.ix2 r 0))) := by
  rw [← ix2_eq_valueIdx]
  pointwise [k0_pay6]
  rfl

/-- The scale of a row from its largest absolute value `a` and its exponent field `u`. -/
theorem scale_row (a : FVec Ideal S512x1 .f32) (u : IVec S512x1 32) (i : S512x1.Idx) : k0_pay2 a u i = scale (a i) (u i) := by
  have e : decide (a i = 0) = decide (a i = Ideal.ofBits .f32 0x00000000#32) := by rw [Ideal.ofBits_zero_f32]
  unfold scale exponent
  rw [e]
  rfl

/-- The codes of a row from its products, its largest absolute value and its exponent field. -/
theorem code_row (y : FVec Ideal S512x3584 .f32) (a : FVec Ideal S512x1 .f32) (u : IVec S512x1 32) (r : Fin 512) (j : Fin 3584) :
    k0_pay3 y a u (ValueIdx.ix2 r j) = min (Ideal.ofBits .f32 0x43E00000#32) (max (Ideal.ofBits .f32 0xC3E00000#32)
      (y (ValueIdx.ix2 r j) * inverse (a (ValueIdx.ix2 r 0)) (u (ValueIdx.ix2 r 0)))) := by
  have e : decide (a (ValueIdx.ix2 r 0) = 0) = decide (a (ValueIdx.ix2 r 0) = Ideal.ofBits .f32 0x00000000#32) := by rw [Ideal.ofBits_zero_f32]
  refine (code_apply y _ _ _ r j).trans ?_
  unfold inverse exponent
  rw [e]
  rfl

/-- The scale the body stores for row `r`. -/
theorem scale_eq (r : Fin 512) :
    k0_pay2 (k0_pay5 x w xs ws b) (k0_pay6 x w xs ws b) (ValueIdx.ix2 r 0) = rowScale (row x w xs ws b r) := by
  rw [scale_row, field_row, (scale_inverse _).1, max_row]
  rfl

/-- The code the body stores for row `r`, column `j`. -/
theorem code_eq (r : Fin 512) (j : Fin 3584) :
    k0_pay3 (k0_pay4 x w xs ws b) (k0_pay5 x w xs ws b) (k0_pay6 x w xs ws b) (ValueIdx.ix2 r j) = rowCode (row x w xs ws b r) j := by
  rw [code_row, field_row, (scale_inverse _).2, max_row, y_row]
  rfl

end Cert.KernelIdeal.Block

end
-- ==== Proof.KernelArray.lean ====
/-
  WHAT THE KERNEL'S TWO RESULT ARRAYS HOLD after the run, at the extended reals: the scales and the codes of all 16384 rows
  (`Rows.scales`, `Rows.codes`) of the arrays the region finds. Grid point `t` reads rows `512 t` to `512 t + 511`, writes the same
  rows of the results, and the 32 points' blocks tile them.
-/
module

public import proofs.«01_k».proof.Proof.KernelRun
public import proofs.«01_k».proof.Proof.KernelBlock

@[expose] public section

noncomputable section

namespace Cert.KernelIdeal.Array

open Cert.KernelIdeal Cert.KernelIdeal.Gen Cert.Rows
open Idealize.ShloMosaic Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## Where a block sits -/

/-- The first row of point `t`'s block plus `r`. -/
def rowOf (t : Fin cfg0.N) (r : Fin 512) : Fin 16384 :=
  ⟨t.val * 512 + r.val, by have h : t.val < 32 := t.isLt; have := r.isLt; omega⟩

/-- The block index of the windows that move with the grid: the point on the rows, zero on the columns. -/
theorem moving : ∀ t : Fin cfg0.N,
    (win0_0.index t 0 = t.val ∧ win0_0.index t 1 = 0) ∧ (win0_1.index t 0 = t.val ∧ win0_1.index t 1 = 0)
    ∧ (win0_5.index t 0 = t.val ∧ win0_5.index t 1 = 0) ∧ (win0_6.index t 0 = t.val ∧ win0_6.index t 1 = 0) :=
  (by decide +kernel : ∀ t : Fin grid0.N,
    (win0_0.index t 0 = t.val ∧ win0_0.index t 1 = 0) ∧ (win0_1.index t 0 = t.val ∧ win0_1.index t 1 = 0)
    ∧ (win0_5.index t 0 = t.val ∧ win0_5.index t 1 = 0) ∧ (win0_6.index t 0 = t.val ∧ win0_6.index t 1 = 0))

/-- The block index of the windows that hold a whole array: zero. -/
theorem whole : ∀ t : Fin cfg0.N,
    (win0_2.index t 0 = 0 ∧ win0_2.index t 1 = 0) ∧ (win0_3.index t 0 = 0 ∧ win0_3.index t 1 = 0)
    ∧ (win0_4.index t 0 = 0 ∧ win0_4.index t 1 = 0) :=
  (by decide +kernel : ∀ t : Fin grid0.N,
    (win0_2.index t 0 = 0 ∧ win0_2.index t 1 = 0) ∧ (win0_3.index t 0 = 0 ∧ win0_3.index t 1 = 0)
    ∧ (win0_4.index t 0 = 0 ∧ win0_4.index t 1 = 0))

/-- The activations' block read at row `r`, column `k`. -/
theorem read0 (A : S16384x3584.Idx → EReal) (t : Fin cfg0.N) (r : Fin 512) (k : Fin 3584) :
    ((cfg0.win 0).blk t).view.read (Elt Ideal) A (ValueIdx.ix2 r k) = A (ValueIdx.ix2 (rowOf t r) k) := by
  show A ((win0_0.rect t).emb (ValueIdx.ix2 r k)) = _
  refine congrArg A (funext fun a => Fin.ext ?_)
  match a with
  | ⟨0, _⟩ => exact (win0_0.rect_emb_val t _ 0).trans (by rw [(moving t).1.1]; rfl)
  | ⟨1, _⟩ => exact win0_0.rect_emb_val_of_index_zero t 1 (moving t).1.2 _

/-- The activation scales' block read at row `r`. -/
theorem read1 (A : S16384x1.Idx → EReal) (t : Fin cfg0.N) (r : Fin 512) :
    ((cfg0.win 1).blk t).view.read (Elt Ideal) A (ValueIdx.ix2 r 0) = A (ValueIdx.ix2 (rowOf t r) 0) := by
  show A ((win0_1.rect t).emb (ValueIdx.ix2 r 0)) = _
  refine congrArg A (funext fun a => Fin.ext ?_)
  match a with
  | ⟨0, _⟩ => exact (win0_1.rect_emb_val t _ 0).trans (by rw [(moving t).2.1.1]; rfl)
  | ⟨1, _⟩ => exact win0_1.rect_emb_val_of_index_zero t 1 (moving t).2.1.2 _

/-- The weights' block is the whole array. -/
theorem read2 (A : S3584x3584.Idx → EReal) (t : Fin cfg0.N) (j k : Fin 3584) :
    ((cfg0.win 2).blk t).view.read (Elt Ideal) A (ValueIdx.ix2 j k) = A (ValueIdx.ix2 j k) := by
  show A ((win0_2.rect t).emb (ValueIdx.ix2 j k)) = _
  refine congrArg A (funext fun a => Fin.ext ?_)
  match a with
  | ⟨0, _⟩ => exact win0_2.rect_emb_val_of_index_zero t 0 (whole t).1.1 _
  | ⟨1, _⟩ => exact win0_2.rect_emb_val_of_index_zero t 1 (whole t).1.2 _

/-- The weight scales' block is the whole array. -/
theorem read3 (A : S1x3584.Idx → EReal) (t : Fin cfg0.N) (j : Fin 3584) :
    ((cfg0.win 3).blk t).view.read (Elt Ideal) A (ValueIdx.ix2 0 j) = A (ValueIdx.ix2 0 j) := by
  show A ((win0_3.rect t).emb (ValueIdx.ix2 0 j)) = _
  refine congrArg A (funext fun a => Fin.ext ?_)
  match a with
  | ⟨0, _⟩ => exact win0_3.rect_emb_val_of_index_zero t 0 (whole t).2.1.1 _
  | ⟨1, _⟩ => exact win0_3.rect_emb_val_of_index_zero t 1 (whole t).2.1.2 _

/-- The biases' block is the whole array. -/
theorem read4 (A : S1x3584.Idx → EReal) (t : Fin cfg0.N) (j : Fin 3584) :
    ((cfg0.win 4).blk t).view.read (Elt Ideal) A (ValueIdx.ix2 0 j) = A (ValueIdx.ix2 0 j) := by
  show A ((win0_4.rect t).emb (ValueIdx.ix2 0 j)) = _
  refine congrArg A (funext fun a => Fin.ext ?_)
  match a with
  | ⟨0, _⟩ => exact win0_4.rect_emb_val_of_index_zero t 0 (whole t).2.2.1 _
  | ⟨1, _⟩ => exact win0_4.rect_emb_val_of_index_zero t 1 (whole t).2.2.2 _

/-- The scales' block read at row `r`. -/
theorem read5 (A : S16384x1.Idx → EReal) (t : Fin cfg0.N) (r : Fin 512) :
    ((cfg0.win 5).blk t).view.read (Elt Ideal) A (ValueIdx.ix2 r 0) = A (ValueIdx.ix2 (rowOf t r) 0) := by
  show A ((win0_5.rect t).emb (ValueIdx.ix2 r 0)) = _
  refine congrArg A (funext fun a => Fin.ext ?_)
  match a with
  | ⟨0, _⟩ => exact (win0_5.rect_emb_val t _ 0).trans (by rw [(moving t).2.2.1.1]; rfl)
  | ⟨1, _⟩ => exact win0_5.rect_emb_val_of_index_zero t 1 (moving t).2.2.1.2 _

/-- The codes' block read at row `r`, column `j`. -/
theorem read6 (A : S16384x3584.Idx → EReal) (t : Fin cfg0.N) (r : Fin 512) (j : Fin 3584) :
    ((cfg0.win 6).blk t).view.read (Elt Ideal) A (ValueIdx.ix2 r j) = A (ValueIdx.ix2 (rowOf t r) j) := by
  show A ((win0_6.rect t).emb (ValueIdx.ix2 r j)) = _
  refine congrArg A (funext fun a => Fin.ext ?_)
  match a with
  | ⟨0, _⟩ => exact (win0_6.rect_emb_val t _ 0).trans (by rw [(moving t).2.2.2.1]; rfl)
  | ⟨1, _⟩ => exact win0_6.rect_emb_val_of_index_zero t 1 (moving t).2.2.2.2 _

/-! ## What a point writes back -/

/-- Row `r` of point `t`'s blocks is row `512 t + r` of the arrays. -/
theorem row_blk (c : Dev nD) (t : Fin cfg0.N) (r : Fin 512) :
    row (M := 512) (iblk m c 0 t) (iblk m c 2 t) (iblk m c 1 t) (iblk m c 3 t) (iblk m c 4 t) r
      = row (M := 16384) (V m c main_v0) (V m c main_arg2) (V m c main_v1) (V m c main_v2) (V m c main_v3) (rowOf t r) :=
  row_congr (fun k => read0 (V m c main_v0) t r k) (fun j k => read2 (V m c main_arg2) t j k) (read1 (V m c main_v1) t r)
    (fun j => read3 (V m c main_v2) t j) (fun j => read4 (V m c main_v3) t j)

/-- Point `t` writes back its block of the scales. -/
theorem flushed5_eq (c : Dev nD) (t : Fin cfg0.N) :
    (dats m 0 c).flushed 5 t = ((cfg0.win 5).blk t).view.read (Elt Ideal)
      (scales (M := 16384) (V m c main_v0) (V m c main_arg2) (V m c main_v1) (V m c main_v2) (V m c main_v3)) := by
  rw [Run.flushed5]
  unfold out0_5 k0_pay8 k0_pay7
  rw [View.canon_unit_zero hz, View.ld_unit_zero hz, View.ld_unit_zero hz, View.ld_unit_zero hz, View.ld_unit_zero hz, View.ld_unit_zero hz]
  have key : ∀ i : S512x1.Idx,
      k0_pay2 (k0_pay5 (iblk m c 0 t) (iblk m c 2 t) (iblk m c 1 t) (iblk m c 3 t) (iblk m c 4 t))
        (k0_pay6 (iblk m c 0 t) (iblk m c 2 t) (iblk m c 1 t) (iblk m c 3 t) (iblk m c 4 t)) i
      = ((cfg0.win 5).blk t).view.read (Elt Ideal)
        (scales (M := 16384) (V m c main_v0) (V m c main_arg2) (V m c main_v1) (V m c main_v2) (V m c main_v3)) i := by
    intro i
    obtain ⟨r, rfl⟩ : ∃ r : Fin 512, i = ValueIdx.ix2 r 0 := ⟨i 0, by
      rw [ValueIdx.eq_ix2 i]; exact congrArg _ (Fin.ext (Nat.lt_one_iff.mp (i 1).isLt))⟩
    rw [Block.scale_eq, row_blk, read5]
    rfl
  exact funext key

/-- Point `t` writes back its block of the codes. -/
theorem flushed6_eq (c : Dev nD) (t : Fin cfg0.N) :
    (dats m 0 c).flushed 6 t = ((cfg0.win 6).blk t).view.read (Elt Ideal)
      (codes (M := 16384) (V m c main_v0) (V m c main_arg2) (V m c main_v1) (V m c main_v2) (V m c main_v3)) := by
  rw [Run.flushed6]
  unfold out0_6 k0_pay8 k0_pay7
  rw [View.canon_unit_zero hz, View.ld_unit_zero hz, View.ld_unit_zero hz, View.ld_unit_zero hz, View.ld_unit_zero hz, View.ld_unit_zero hz]
  have key : ∀ i : S512x3584.Idx,
      k0_pay3 (k0_pay4 (iblk m c 0 t) (iblk m c 2 t) (iblk m c 1 t) (iblk m c 3 t) (iblk m c 4 t))
        (k0_pay5 (iblk m c 0 t) (iblk m c 2 t) (iblk m c 1 t) (iblk m c 3 t) (iblk m c 4 t))
        (k0_pay6 (iblk m c 0 t) (iblk m c 2 t) (iblk m c 1 t) (iblk m c 3 t) (iblk m c 4 t)) i
      = ((cfg0.win 6).blk t).view.read (Elt Ideal)
        (codes (M := 16384) (V m c main_v0) (V m c main_arg2) (V m c main_v1) (V m c main_v2) (V m c main_v3)) i := by
    intro i
    obtain ⟨r, j, rfl⟩ : ∃ (r : Fin 512) (j : Fin 3584), i = ValueIdx.ix2 r j := ⟨i 0, i 1, ValueIdx.eq_ix2 i⟩
    rw [Block.code_eq, row_blk, read6]
    rfl
  exact funext key

/-! ## The arrays -/

/-- The scales' blocks tile their array. -/
theorem cover5 (i : S16384x1.Idx) : ∃ t : Fin cfg0.N, (cfg0.win 5).flush t = true ∧ i ∈ ((cfg0.win 5).blk t).view.set := by
  have h0 : (i 0 : Nat) < 16384 := (i 0).isLt
  have h1 : (i 1 : Nat) < 1 := (i 1).isLt
  have ht : (i 0 : Nat) / 512 < cfg0.N := by show _ < 32; omega
  refine ⟨⟨(i 0 : Nat) / 512, ht⟩, flush0_5 _, ?_⟩
  show i ∈ ((View.whole main_v4_0).slice (win0_5.rect ⟨(i 0 : Nat) / 512, ht⟩)).set
  rw [View.set_slice_whole, Rect.mem_set_unit]
  intro a
  match a with
  | ⟨0, _⟩ =>
    show win0_5.index ⟨(i 0 : Nat) / 512, ht⟩ 0 * 512 ≤ (i 0 : Nat) ∧ (i 0 : Nat) < win0_5.index ⟨(i 0 : Nat) / 512, ht⟩ 0 * 512 + 512
    rw [(moving _).2.2.1.1]; dsimp only; omega
  | ⟨1, _⟩ =>
    show win0_5.index ⟨(i 0 : Nat) / 512, ht⟩ 1 * 1 ≤ (i 1 : Nat) ∧ (i 1 : Nat) < win0_5.index ⟨(i 0 : Nat) / 512, ht⟩ 1 * 1 + 1
    rw [(moving _).2.2.1.2]; omega

/-- The codes' blocks tile their array. -/
theorem cover6 (i : S16384x3584.Idx) : ∃ t : Fin cfg0.N, (cfg0.win 6).flush t = true ∧ i ∈ ((cfg0.win 6).blk t).view.set := by
  have h0 : (i 0 : Nat) < 16384 := (i 0).isLt
  have h1 : (i 1 : Nat) < 3584 := (i 1).isLt
  have ht : (i 0 : Nat) / 512 < cfg0.N := by show _ < 32; omega
  refine ⟨⟨(i 0 : Nat) / 512, ht⟩, flush0_6 _, ?_⟩
  show i ∈ ((View.whole main_v4_1).slice (win0_6.rect ⟨(i 0 : Nat) / 512, ht⟩)).set
  rw [View.set_slice_whole, Rect.mem_set_unit]
  intro a
  match a with
  | ⟨0, _⟩ =>
    show win0_6.index ⟨(i 0 : Nat) / 512, ht⟩ 0 * 512 ≤ (i 0 : Nat) ∧ (i 0 : Nat) < win0_6.index ⟨(i 0 : Nat) / 512, ht⟩ 0 * 512 + 512
    rw [(moving _).2.2.2.1]; dsimp only; omega
  | ⟨1, _⟩ =>
    show win0_6.index ⟨(i 0 : Nat) / 512, ht⟩ 1 * 3584 ≤ (i 1 : Nat) ∧ (i 1 : Nat) < win0_6.index ⟨(i 0 : Nat) / 512, ht⟩ 1 * 3584 + 3584
    rw [(moving _).2.2.2.2]; omega

/-- After the run the first result holds the scales of all rows. -/
theorem final5 (c : Dev nD) : (dats m 0 c).arrAt 5 cfg0.N
    = scales (M := 16384) (V m c main_v0) (V m c main_arg2) (V m c main_v1) (V m c main_v2) (V m c main_v3) :=
  (dats m 0 c).arrAt_eq_of_cover 5 _ (fun t _ => flushed5_eq m c t) cover5

/-- After the run the second result holds the codes of all rows. -/
theorem final6 (c : Dev nD) : (dats m 0 c).arrAt 6 cfg0.N
    = codes (M := 16384) (V m c main_v0) (V m c main_arg2) (V m c main_v1) (V m c main_v2) (V m c main_v3) :=
  (dats m 0 c).arrAt_eq_of_cover 6 _ (fun t _ => flushed6_eq m c t) cover6

/-! ## The arrays the region finds -/

/-- The activations as 16384 rows. -/
theorem V_x (c : Dev nD) : V m c main_v0 = shapeCast S16384x3584 (m ((c : Thread nD τ).loc main_arg0)) shapeCasts_S2x8192x3584_S16384x3584 := by
  rfl

/-- The activation scales as a column. -/
theorem V_xs (c : Dev nD) : V m c main_v1 = shapeCast S16384x1 (m ((c : Thread nD τ).loc main_arg1)) shapeCasts_S2x8192x1_S16384x1 := by
  rfl

/-- The weight scales as a row. -/
theorem V_ws (c : Dev nD) : V m c main_v2 = shapeCast S1x3584 (m ((c : Thread nD τ).loc main_arg3)) shapeCasts_S3584_S1x3584 := by
  rfl

/-- The biases as a row. -/
theorem V_b (c : Dev nD) : V m c main_v3 = shapeCast S1x3584 (m ((c : Thread nD τ).loc main_arg4)) shapeCasts_S3584_S1x3584 := by
  rfl

end Cert.KernelIdeal.Array

end
-- ==== Proof.ReferenceRun.lean ====
/-
  THE REFERENCE'S RUN, ITS TWO RESULT ARRAYS NAMED. `run_blocks` is the frame run of the reference with the scale array and
  the code array after the run named (`(dats m 0 c).arrAt w N`, windows 5 and 6) and the arguments unchanged; `flushed5` and
  `flushed6` say what a grid point writes back to each: the body's result on the point's input blocks.
-/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v4_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_1) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N` —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

end Cert.ReferenceIdeal.Run

end
-- ==== Proof.ReferenceBlock.lean ====
/-
  WHAT THE REFERENCE COMPUTES, at the extended reals: from all 16384 rows, the scale of each row and its codes — `Rows.rowScale`
  and `Rows.rowCode` of the row of scaled products `Rows.yRow`.
-/
module

public import proofs.«01_k».proof.Proof.Gen.ReferenceIdeal.Frame
public import proofs.«01_k».proof.Proof.Rows

@[expose] public section

noncomputable section

namespace Cert.ReferenceIdeal.Block

open Cert.ReferenceIdeal Cert.ReferenceIdeal.Gen Cert.Rows Cert.Exponent
open Idealize.ShloMosaic

variable (x : Vec Ideal S16384x3584 .fp8e4m3) (w : Vec Ideal S3584x3584 .fp8e4m3) (xs : Vec Ideal S16384x1 .f32)
  (ws b : Vec Ideal S1x3584 .f32)

/-- The scaled products at row `r`, column `j`. -/
theorem y_row (r : Fin 16384) (j : Fin 3584) : k0_pay2 x w xs ws b (ValueIdx.ix2 r j) = row x w xs ws b r j :=
  y_apply x w xs ws b _ _ _ _ _ r j

/-- The exponent of row `r`. -/
theorem exponent_row (r : Fin 16384) :
    k0_pay3 x w xs ws b (ValueIdx.ix2 r 0) = refExponent (ratio (rowMax (row x w xs ws b r))) :=
  (exponent_apply _ _).trans (congrArg (fun a => refExponent (ratio a)) ((max_apply (k0_pay2 x w xs ws b) _ _ _ _ r).trans
    (congrArg rowMax (funext fun k => y_row x w xs ws b r k))))

/-- Two to a vector's entries, at an index. -/
theorem exp2_apply {s : Shape} (v : FVec Ideal s .f32) (i : s.Idx) : exp2 v i = Ideal.exp2 (v i) := rfl

/-- Two to the negated exponents, at an index. -/
theorem exp2_neg_apply (e : FVec Ideal S16384x1 .f32) (i : S16384x1.Idx) :
    exp2 (subf (k0_pay5 (F := Ideal)) e) i = Ideal.exp2 (0 - e i) := by
  rw [← Ideal.ofBits_zero_f32]
  rfl

/-- The codes from the products and the exponents, at row `r`, column `j`. -/
theorem code_row (y : FVec Ideal S16384x3584 .f32) (e : FVec Ideal S16384x1 .f32) (r : Fin 16384) (j : Fin 3584) :
    k0_pay1 y e (k0_pay5 (F := Ideal)) (ValueIdx.ix2 r j) = min (Ideal.ofBits .f32 0x43E00000#32) (max (Ideal.ofBits .f32 0xC3E00000#32)
      (y (ValueIdx.ix2 r j) * Ideal.exp2 (0 - e (ValueIdx.ix2 r 0)))) := by
  unfold k0_pay1
  rw [code_apply, exp2_neg_apply]

/-- The scale stored for row `r`. -/
theorem scale_eq (r : Fin 16384) : k0_pay4 x w xs ws b (ValueIdx.ix2 r 0) = rowScale (row x w xs ws b r) := by
  unfold k0_pay4 rowScale
  rw [exp2_apply, exponent_row]

/-- The code stored for row `r`, column `j`. -/
theorem code_eq (r : Fin 16384) (j : Fin 3584) :
    k0_pay1 (k0_pay2 x w xs ws b) (k0_pay3 x w xs ws b) (k0_pay5 (F := Ideal)) (ValueIdx.ix2 r j) = rowCode (row x w xs ws b r) j := by
  unfold rowCode
  rw [code_row, exponent_row, y_row]

end Cert.ReferenceIdeal.Block

end
-- ==== Proof.ReferenceArray.lean ====
/-
  WHAT THE REFERENCE'S TWO RESULT ARRAYS HOLD after the run, at the extended reals: the scales and the codes of all 16384 rows
  (`Rows.scales`, `Rows.codes`) of the arrays its one region finds. The region has one point, whose blocks are the whole arrays.
-/
module

public import proofs.«01_k».proof.Proof.ReferenceRun
public import proofs.«01_k».proof.Proof.ReferenceBlock

@[expose] public section

noncomputable section

namespace Cert.ReferenceIdeal.Array

open Cert.ReferenceIdeal Cert.ReferenceIdeal.Gen Cert.Rows
open Idealize.ShloMosaic Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## Where a block sits -/

/-- Every window's block index is zero. -/
theorem whole : ∀ t : Fin cfg0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) :=
  (by decide +kernel : ∀ t : Fin grid0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0))

/-- The activations' block is the whole array. -/
theorem read0 (A : S16384x3584.Idx → EReal) (t : Fin cfg0.N) (r : Fin 16384) (k : Fin 3584) :
    ((cfg0.win 0).blk t).view.read (Elt Ideal) A (ValueIdx.ix2 r k) = A (ValueIdx.ix2 r k) := by
  show A ((win0_0.rect t).emb (ValueIdx.ix2 r k)) = _
  refine congrArg A (funext fun a => Fin.ext ?_)
  match a with
  | ⟨0, _⟩ => exact win0_0.rect_emb_val_of_index_zero t 0 (whole t).1.1 _
  | ⟨1, _⟩ => exact win0_0.rect_emb_val_of_index_zero t 1 (whole t).1.2 _

/-- The activation scales' block is the whole array. -/
theorem read1 (A : S16384x1.Idx → EReal) (t : Fin cfg0.N) (r : Fin 16384) :
    ((cfg0.win 1).blk t).view.read (Elt Ideal) A (ValueIdx.ix2 r 0) = A (ValueIdx.ix2 r 0) := by
  show A ((win0_1.rect t).emb (ValueIdx.ix2 r 0)) = _
  refine congrArg A (funext fun a => Fin.ext ?_)
  match a with
  | ⟨0, _⟩ => exact win0_1.rect_emb_val_of_index_zero t 0 (whole t).2.1.1 _
  | ⟨1, _⟩ => exact win0_1.rect_emb_val_of_index_zero t 1 (whole t).2.1.2 _

/-- The weights' block is the whole array. -/
theorem read2 (A : S3584x3584.Idx → EReal) (t : Fin cfg0.N) (j k : Fin 3584) :
    ((cfg0.win 2).blk t).view.read (Elt Ideal) A (ValueIdx.ix2 j k) = A (ValueIdx.ix2 j k) := by
  show A ((win0_2.rect t).emb (ValueIdx.ix2 j k)) = _
  refine congrArg A (funext fun a => Fin.ext ?_)
  match a with
  | ⟨0, _⟩ => exact win0_2.rect_emb_val_of_index_zero t 0 (whole t).2.2.1.1 _
  | ⟨1, _⟩ => exact win0_2.rect_emb_val_of_index_zero t 1 (whole t).2.2.1.2 _

/-- The weight scales' block is the whole array. -/
theorem read3 (A : S1x3584.Idx → EReal) (t : Fin cfg0.N) (j : Fin 3584) :
    ((cfg0.win 3).blk t).view.read (Elt Ideal) A (ValueIdx.ix2 0 j) = A (ValueIdx.ix2 0 j) := by
  show A ((win0_3.rect t).emb (ValueIdx.ix2 0 j)) = _
  refine congrArg A (funext fun a => Fin.ext ?_)
  match a with
  | ⟨0, _⟩ => exact win0_3.rect_emb_val_of_index_zero t 0 (whole t).2.2.2.1.1 _
  | ⟨1, _⟩ => exact win0_3.rect_emb_val_of_index_zero t 1 (whole t).2.2.2.1.2 _

/-- The biases' block is the whole array. -/
theorem read4 (A : S1x3584.Idx → EReal) (t : Fin cfg0.N) (j : Fin 3584) :
    ((cfg0.win 4).blk t).view.read (Elt Ideal) A (ValueIdx.ix2 0 j) = A (ValueIdx.ix2 0 j) := by
  show A ((win0_4.rect t).emb (ValueIdx.ix2 0 j)) = _
  refine congrArg A (funext fun a => Fin.ext ?_)
  match a with
  | ⟨0, _⟩ => exact win0_4.rect_emb_val_of_index_zero t 0 (whole t).2.2.2.2.1.1 _
  | ⟨1, _⟩ => exact win0_4.rect_emb_val_of_index_zero t 1 (whole t).2.2.2.2.1.2 _

/-- The scales' block is the whole array. -/
theorem read5 (A : S16384x1.Idx → EReal) (t : Fin cfg0.N) (r : Fin 16384) :
    ((cfg0.win 5).blk t).view.read (Elt Ideal) A (ValueIdx.ix2 r 0) = A (ValueIdx.ix2 r 0) := by
  show A ((win0_5.rect t).emb (ValueIdx.ix2 r 0)) = _
  refine congrArg A (funext fun a => Fin.ext ?_)
  match a with
  | ⟨0, _⟩ => exact win0_5.rect_emb_val_of_index_zero t 0 (whole t).2.2.2.2.2.1.1 _
  | ⟨1, _⟩ => exact win0_5.rect_emb_val_of_index_zero t 1 (whole t).2.2.2.2.2.1.2 _

/-- The codes' block is the whole array. -/
theorem read6 (A : S16384x3584.Idx → EReal) (t : Fin cfg0.N) (r : Fin 16384) (j : Fin 3584) :
    ((cfg0.win 6).blk t).view.read (Elt Ideal) A (ValueIdx.ix2 r j) = A (ValueIdx.ix2 r j) := by
  show A ((win0_6.rect t).emb (ValueIdx.ix2 r j)) = _
  refine congrArg A (funext fun a => Fin.ext ?_)
  match a with
  | ⟨0, _⟩ => exact win0_6.rect_emb_val_of_index_zero t 0 (whole t).2.2.2.2.2.2.1 _
  | ⟨1, _⟩ => exact win0_6.rect_emb_val_of_index_zero t 1 (whole t).2.2.2.2.2.2.2 _

/-! ## What a point writes back -/

/-- Row `r` of the point's blocks is row `r` of the arrays. -/
theorem row_blk (c : Dev nD) (t : Fin cfg0.N) (r : Fin 16384) :
    row (M := 16384) (iblk m c 0 t) (iblk m c 2 t) (iblk m c 1 t) (iblk m c 3 t) (iblk m c 4 t) r
      = row (M := 16384) (V m c main_v0) (V m c main_arg2) (V m c main_v1) (V m c main_v2) (V m c main_v3) r :=
  row_congr (fun k => read0 (V m c main_v0) t r k) (fun j k => read2 (V m c main_arg2) t j k) (read1 (V m c main_v1) t r)
    (fun j => read3 (V m c main_v2) t j) (fun j => read4 (V m c main_v3) t j)

/-- The point writes back the scales. -/
theorem flushed5_eq (c : Dev nD) (t : Fin cfg0.N) :
    (dats m 0 c).flushed 5 t = ((cfg0.win 5).blk t).view.read (Elt Ideal)
      (scales (M := 16384) (V m c main_v0) (V m c main_arg2) (V m c main_v1) (V m c main_v2) (V m c main_v3)) := by
  rw [Run.flushed5]
  unfold out0_5
  rw [View.canon_unit_zero hz, View.ld_unit_zero hz, View.ld_unit_zero hz, View.ld_unit_zero hz, View.ld_unit_zero hz, View.ld_unit_zero hz]
  have key : ∀ i : S16384x1.Idx,
      k0_pay4 (iblk m c 0 t) (iblk m c 2 t) (iblk m c 1 t) (iblk m c 3 t) (iblk m c 4 t) i
      = ((cfg0.win 5).blk t).view.read (Elt Ideal)
        (scales (M := 16384) (V m c main_v0) (V m c main_arg2) (V m c main_v1) (V m c main_v2) (V m c main_v3)) i := by
    intro i
    obtain ⟨r, rfl⟩ : ∃ r : Fin 16384, i = ValueIdx.ix2 r 0 := ⟨i 0, by
      rw [ValueIdx.eq_ix2 i]; exact congrArg _ (Fin.ext (Nat.lt_one_iff.mp (i 1).isLt))⟩
    rw [Block.scale_eq, row_blk, read5]
    rfl
  exact funext key

/-- The point writes back the codes. -/
theorem flushed6_eq (c : Dev nD) (t : Fin cfg0.N) :
    (dats m 0 c).flushed 6 t = ((cfg0.win 6).blk t).view.read (Elt Ideal)
      (codes (M := 16384) (V m c main_v0) (V m c main_arg2) (V m c main_v1) (V m c main_v2) (V m c main_v3)) := by
  rw [Run.flushed6]
  unfold out0_6
  rw [View.canon_unit_zero hz, View.ld_unit_zero hz, View.ld_unit_zero hz, View.ld_unit_zero hz, View.ld_unit_zero hz, View.ld_unit_zero hz]
  have key : ∀ i : S16384x3584.Idx,
      k0_pay1 (k0_pay2 (iblk m c 0 t) (iblk m c 2 t) (iblk m c 1 t) (iblk m c 3 t) (iblk m c 4 t))
        (k0_pay3 (iblk m c 0 t) (iblk m c 2 t) (iblk m c 1 t) (iblk m c 3 t) (iblk m c 4 t)) (k0_pay5 (F := Ideal)) i
      = ((cfg0.win 6).blk t).view.read (Elt Ideal)
        (codes (M := 16384) (V m c main_v0) (V m c main_arg2) (V m c main_v1) (V m c main_v2) (V m c main_v3)) i := by
    intro i
    obtain ⟨r, j, rfl⟩ : ∃ (r : Fin 16384) (j : Fin 3584), i = ValueIdx.ix2 r j := ⟨i 0, i 1, ValueIdx.eq_ix2 i⟩
    rw [Block.code_eq, row_blk, read6]
    rfl
  exact funext key

/-! ## The arrays -/

/-- The one block of the scales is their whole array. -/
theorem cover5 (i : S16384x1.Idx) : ∃ t : Fin cfg0.N, (cfg0.win 5).flush t = true ∧ i ∈ ((cfg0.win 5).blk t).view.set := by
  have h0 : (i 0 : Nat) < 16384 := (i 0).isLt
  have h1 : (i 1 : Nat) < 1 := (i 1).isLt
  refine ⟨t0_0, flush0_5 _, ?_⟩
  show i ∈ ((View.whole main_v4_0).slice (win0_5.rect t0_0)).set
  rw [View.set_slice_whole, Rect.mem_set_unit]
  intro a
  match a with
  | ⟨0, _⟩ =>
    show win0_5.index t0_0 0 * 16384 ≤ (i 0 : Nat) ∧ (i 0 : Nat) < win0_5.index t0_0 0 * 16384 + 16384
    rw [(whole _).2.2.2.2.2.1.1]; omega
  | ⟨1, _⟩ =>
    show win0_5.index t0_0 1 * 1 ≤ (i 1 : Nat) ∧ (i 1 : Nat) < win0_5.index t0_0 1 * 1 + 1
    rw [(whole _).2.2.2.2.2.1.2]; omega

/-- The one block of the codes is their whole array. -/
theorem cover6 (i : S16384x3584.Idx) : ∃ t : Fin cfg0.N, (cfg0.win 6).flush t = true ∧ i ∈ ((cfg0.win 6).blk t).view.set := by
  have h0 : (i 0 : Nat) < 16384 := (i 0).isLt
  have h1 : (i 1 : Nat) < 3584 := (i 1).isLt
  refine ⟨t0_0, flush0_6 _, ?_⟩
  show i ∈ ((View.whole main_v4_1).slice (win0_6.rect t0_0)).set
  rw [View.set_slice_whole, Rect.mem_set_unit]
  intro a
  match a with
  | ⟨0, _⟩ =>
    show win0_6.index t0_0 0 * 16384 ≤ (i 0 : Nat) ∧ (i 0 : Nat) < win0_6.index t0_0 0 * 16384 + 16384
    rw [(whole _).2.2.2.2.2.2.1]; omega
  | ⟨1, _⟩ =>
    show win0_6.index t0_0 1 * 3584 ≤ (i 1 : Nat) ∧ (i 1 : Nat) < win0_6.index t0_0 1 * 3584 + 3584
    rw [(whole _).2.2.2.2.2.2.2]; omega

/-- After the run the first result holds the scales of all rows. -/
theorem final5 (c : Dev nD) : (dats m 0 c).arrAt 5 cfg0.N
    = scales (M := 16384) (V m c main_v0) (V m c main_arg2) (V m c main_v1) (V m c main_v2) (V m c main_v3) :=
  (dats m 0 c).arrAt_eq_of_cover 5 _ (fun t _ => flushed5_eq m c t) cover5

/-- After the run the second result holds the codes of all rows. -/
theorem final6 (c : Dev nD) : (dats m 0 c).arrAt 6 cfg0.N
    = codes (M := 16384) (V m c main_v0) (V m c main_arg2) (V m c main_v1) (V m c main_v2) (V m c main_v3) :=
  (dats m 0 c).arrAt_eq_of_cover 6 _ (fun t _ => flushed6_eq m c t) cover6

/-! ## The arrays the region finds -/

/-- The activations as 16384 rows. -/
theorem V_x (c : Dev nD) : V m c main_v0 = shapeCast S16384x3584 (m ((c : Thread nD τ).loc main_arg0)) shapeCasts_S2x8192x3584_S16384x3584 := by
  rfl

/-- The activation scales as a column. -/
theorem V_xs (c : Dev nD) : V m c main_v1 = shapeCast S16384x1 (m ((c : Thread nD τ).loc main_arg1)) shapeCasts_S2x8192x1_S16384x1 := by
  rfl

/-- The weight scales as a row. -/
theorem V_ws (c : Dev nD) : V m c main_v2 = shapeCast S1x3584 (m ((c : Thread nD τ).loc main_arg3)) shapeCasts_S3584_S1x3584 := by
  rfl

/-- The biases as a row. -/
theorem V_b (c : Dev nD) : V m c main_v3 = shapeCast S1x3584 (m ((c : Thread nD τ).loc main_arg4)) shapeCasts_S3584_S1x3584 := by
  rfl

end Cert.ReferenceIdeal.Array

end
-- ==== Proof.Equation.lean ====
/-
  THE EQUATION. From memories whose arguments agree, the kernel's two results and the reference's are the same arrays: both are the
  scales and the codes of the 16384 rows of the same reshaped arguments.
-/
module

public import proofs.«01_k».proof.Defs
public import proofs.«01_k».proof.Proof.KernelArray
public import proofs.«01_k».proof.Proof.ReferenceArray

@[expose] public section

noncomputable section

namespace Cert.Equation

open Idealize.ShloMosaic Idealize.ShloMosaic.TcCoe Idealize.SL.Sem

/-- The two programs' results agree: at the extended reals, from memories whose arguments agree, both runs end with the same
    scales and the same codes, the arguments unchanged. -/
theorem algebraic : Cert.algebraic_KernelIdeal_ReferenceIdeal := by
  intro m ρ m' ρ' _ hagree
  refine ⟨fun c => (KernelIdeal.Gen.dats m 0 c).arrAt 5 KernelIdeal.cfg0.N, fun c => (KernelIdeal.Gen.dats m 0 c).arrAt 6 KernelIdeal.cfg0.N,
    KernelIdeal.Run.run_blocks (F := Ideal) m ρ, ?_⟩
  refine (θ_run ReferenceIdeal.defs _ _).mono (fun r h c => ⟨(h c).1.trans ?_, (h c).2.1.trans ?_, (h c).2.2⟩)
    (ReferenceIdeal.Run.run_blocks (F := Ideal) m' ρ')
  · obtain ⟨e0, e1, e2, e3, e4⟩ := hagree c
    show _ = (KernelIdeal.Gen.dats m 0 c).arrAt 5 KernelIdeal.cfg0.N
    rw [ReferenceIdeal.Array.final5, KernelIdeal.Array.final5, ReferenceIdeal.Array.V_x, ReferenceIdeal.Array.V_xs,
      ReferenceIdeal.Array.V_ws, ReferenceIdeal.Array.V_b, ReferenceIdeal.Gen.V_main_arg2, KernelIdeal.Array.V_x,
      KernelIdeal.Array.V_xs, KernelIdeal.Array.V_ws, KernelIdeal.Array.V_b, KernelIdeal.Gen.V_main_arg2, e0, e1, e2, e3, e4]
  · obtain ⟨e0, e1, e2, e3, e4⟩ := hagree c
    show _ = (KernelIdeal.Gen.dats m 0 c).arrAt 6 KernelIdeal.cfg0.N
    rw [ReferenceIdeal.Array.final6, KernelIdeal.Array.final6, ReferenceIdeal.Array.V_x, ReferenceIdeal.Array.V_xs,
      ReferenceIdeal.Array.V_ws, ReferenceIdeal.Array.V_b, ReferenceIdeal.Gen.V_main_arg2, KernelIdeal.Array.V_x,
      KernelIdeal.Array.V_xs, KernelIdeal.Array.V_ws, KernelIdeal.Array.V_b, KernelIdeal.Gen.V_main_arg2, e0, e1, e2, e3, e4]

end Cert.Equation

end
-- ==== Proof.lean ====
/-
  THE PROOF of `Cert.Claim` (Defs.lean): the frames of the kernel, of its idealization and of the reference are the generated ones;
  the ideal pass rewrote nothing; and the algebraic claim is `Equation.algebraic`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim: the kernel, its idealization and the reference each end with their arguments unchanged and every semaphore at
    zero; the idealization keeps the kernel; and at the extended reals the kernel's scales and codes are the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Equation.algebraic⟩

end Cert.Proof

end
